-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v1) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ preserves_Kernel_KernelIdeal
    ∧ algebraic_KernelIdeal_ReferenceIdeal (hKernelIdeal := hKernelIdeal) (hReferenceIdeal := hReferenceIdeal)
    ∧ preserves_Combine_CombineIdeal
    ∧ algebraic_CombineIdeal_CombineReferenceIdeal (hCombineIdeal := hCombineIdeal) (hCombineReferenceIdeal := hCombineReferenceIdeal)
-- ==== Kernel.lean ====
abbrev S8x1x3584 : Shape := ⟨3, ![8, 1, 3584]⟩
abbrev S1792x28672 : Shape := ⟨2, ![1792, 28672]⟩
abbrev S224x28672 : Shape := ⟨2, ![224, 28672]⟩
abbrev S8x3584 : Shape := ⟨2, ![8, 3584]⟩
abbrev S8x28672 : Shape := ⟨2, ![8, 28672]⟩
abbrev S1792x1024 : Shape := ⟨2, ![1792, 1024]⟩
abbrev S224x1024 : Shape := ⟨2, ![224, 1024]⟩
abbrev S8x1024 : Shape := ⟨2, ![8, 1024]⟩
abbrev S32x1024 : Shape := ⟨2, ![32, 1024]⟩
abbrev S64x1024 : Shape := ⟨2, ![64, 1024]⟩
abbrev S32x1x1024 : Shape := ⟨3, ![32, 1, 1024]⟩
abbrev S32x2x1024 : Shape := ⟨3, ![32, 2, 1024]⟩
abbrev S16x1024 : Shape := ⟨2, ![16, 1024]⟩
abbrev S3584x1024 : Shape := ⟨2, ![3584, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8x1x3584, .bf16⟩
  | .hbm, ⟨1, _⟩ => ⟨S1792x28672, .i8⟩
  | .hbm, ⟨2, _⟩ => ⟨S224x28672, .bf16⟩
  | .hbm, ⟨3, _⟩ => ⟨S224x28672, .i8⟩
  | .hbm, ⟨4, _⟩ => ⟨S8x3584, .bf16⟩
  | .hbm, ⟨5, _⟩ => ⟨S8x28672, .f32⟩
  | .local _ .vmem, ⟨0, _⟩ => ⟨S8x3584, .bf16⟩
  | .local _ .vmem, ⟨1, _⟩ => ⟨S1792x1024, .i8⟩
  | .local _ .vmem, ⟨2, _⟩ => ⟨S1792x1024, .i8⟩
  | .local _ .vmem, ⟨3, _⟩ => ⟨S224x1024, .bf16⟩
  | .local _ .vmem, ⟨4, _⟩ => ⟨S224x1024, .bf16⟩
  | .local _ .vmem, ⟨5, _⟩ => ⟨S224x1024, .i8⟩
  | .local _ .vmem, ⟨6, _⟩ => ⟨S224x1024, .i8⟩
  | .local _ .vmem, ⟨7, _⟩ => ⟨S8x1024, .f32⟩
  | .local _ .vmem, ⟨8, _⟩ => ⟨S8x1024, .f32⟩
  | .local _ .vmem, ⟨9, _⟩ => ⟨S224x1024, .f32⟩
  | .local _ .vmem, ⟨10, _⟩ => ⟨S224x1024, .f32⟩
  | _, _ => ⟨S8x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x1x3584 : Shape := ⟨3, ![8, 1, 3584]⟩
abbrev S1792x28672 : Shape := ⟨2, ![1792, 28672]⟩
abbrev S224x28672 : Shape := ⟨2, ![224, 28672]⟩
abbrev S_ : Shape := ⟨0, ![]⟩
abbrev S224x8x28672 : Shape := ⟨3, ![224, 8, 28672]⟩
abbrev S224x1x28672 : Shape := ⟨3, ![224, 1, 28672]⟩
abbrev S8x1x1792 : Shape := ⟨3, ![8, 1, 1792]⟩
abbrev S8x1x28672 : Shape := ⟨3, ![8, 1, 28672]⟩
abbrev S8x28672 : Shape := ⟨2, ![8, 28672]⟩

abbrev nBuf : Space → Nat
  | .hbm => 40
  | .vmem => 0
  | .smem => 0
  | _ => 0

abbrev bufTy : (tb : Table) → Fin (tcTables nBuf tb) → BufTy
  | .hbm, ⟨0, _⟩ => ⟨S8x1x3584, .bf16⟩
  | .hbm, ⟨1, _⟩ => ⟨S1792x28672, .i8⟩
  | .hbm, ⟨2, _⟩ => ⟨S224x28672, .bf16⟩
  | .hbm, ⟨3, _⟩ => ⟨S224x28672, .i8⟩
  | .hbm, ⟨4, _⟩ => ⟨S1792x28672, .i32⟩
  | .hbm, ⟨5, _⟩ => ⟨S_, .i32⟩
  | .hbm, ⟨6, _⟩ => ⟨S1792x28672, .i32⟩
  | .hbm, ⟨7, _⟩ => ⟨S1792x28672, .i32⟩
  | .hbm, ⟨8, _⟩ => ⟨S1792x28672, .i32⟩
  | .hbm, ⟨9, _⟩ => ⟨S_, .i32⟩
  | .hbm, ⟨10, _⟩ => ⟨S1792x28672, .i32⟩
  | .hbm, ⟨11, _⟩ => ⟨S1792x28672, .i32⟩
  | .hbm, ⟨12, _⟩ => ⟨S1792x28672, .bf16⟩
  | .hbm, ⟨13, _⟩ => ⟨S224x8x28672, .bf16⟩
  | .hbm, ⟨14, _⟩ => ⟨S224x28672, .i32⟩
  | .hbm, ⟨15, _⟩ => ⟨S224x28672, .bf16⟩
  | .hbm, ⟨16, _⟩ => ⟨S224x1x28672, .bf16⟩
  | .hbm, ⟨17, _⟩ => ⟨S224x1x28672, .bf16⟩
  | .hbm, ⟨18, _⟩ => ⟨S224x8x28672, .bf16⟩
  | .hbm, ⟨19, _⟩ => ⟨S224x8x28672, .bf16⟩
  | .hbm, ⟨20, _⟩ => ⟨S224x8x28672, .bf16⟩
  | .hbm, ⟨21, _⟩ => ⟨S224x8x28672, .bf16⟩
  | .hbm, ⟨22, _⟩ => ⟨S1792x28672, .bf16⟩
  | .hbm, ⟨23, _⟩ => ⟨S1792x28672, .bf16⟩
  | .hbm, ⟨24, _⟩ => ⟨S224x8x28672, .bf16⟩
  | .hbm, ⟨25, _⟩ => ⟨S224x28672, .i32⟩
  | .hbm, ⟨26, _⟩ => ⟨S224x28672, .bf16⟩
  | .hbm, ⟨27, _⟩ => ⟨S224x1x28672, .bf16⟩
  | .hbm, ⟨28, _⟩ => ⟨S224x1x28672, .bf16⟩
  | .hbm, ⟨29, _⟩ => ⟨S224x8x28672, .bf16⟩
  | .hbm, ⟨30, _⟩ => ⟨S224x8x28672, .bf16⟩
  | .hbm, ⟨31, _⟩ => ⟨S224x8x28672, .bf16⟩
  | .hbm, ⟨32, _⟩ => ⟨S224x8x28672, .bf16⟩
  | .hbm, ⟨33, _⟩ => ⟨S1792x28672, .bf16⟩
  | .hbm, ⟨34, _⟩ => ⟨S8x1x1792, .bf16⟩
  | .hbm, ⟨35, _⟩ => ⟨S8x1x28672, .f32⟩
  | .hbm, ⟨36, _⟩ => ⟨S8x1x1792, .bf16⟩
  | .hbm, ⟨37, _⟩ => ⟨S8x1x28672, .f32⟩
  | .hbm, ⟨38, _⟩ => ⟨S8x1x28672, .f32⟩
  | .hbm, ⟨39, _⟩ => ⟨S8x28672, .f32⟩
  | _, _ => ⟨S8x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Combine.lean ====
abbrev S8x28672 : Shape := ⟨2, ![8, 28672]⟩

abbrev nBuf : Space → Nat
  | .hbm => 3
  | .vmem => 3
  | .smem => 0
  | _ => 0

abbrev bufTy : (tb : Table) → Fin (tcTables nBuf tb) → BufTy
  | .hbm, ⟨0, _⟩ => ⟨S8x28672, .f32⟩
  | .hbm, ⟨1, _⟩ => ⟨S8x28672, .f32⟩
  | .hbm, ⟨2, _⟩ => ⟨S8x28672, .bf16⟩
  | .local _ .vmem, ⟨0, _⟩ => ⟨S8x28672, .f32⟩
  | .local _ .vmem, ⟨1, _⟩ => ⟨S8x28672, .f32⟩
  | .local _ .vmem, ⟨2, _⟩ => ⟨S8x28672, .bf16⟩
  | _, _ => ⟨S8x28672, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x28672 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x28672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x28672 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CombineReferenceIdeal.lean ====
abbrev S8x28672 : Shape := ⟨2, ![8, 28672]⟩

abbrev nBuf : Space → Nat
  | .hbm => 4
  | .vmem => 0
  | .smem => 0
  | _ => 0

abbrev bufTy : (tb : Table) → Fin (tcTables nBuf tb) → BufTy
  | .hbm, ⟨0, _⟩ => ⟨S8x28672, .f32⟩
  | .hbm, ⟨1, _⟩ => ⟨S8x28672, .f32⟩
  | .hbm, ⟨2, _⟩ => ⟨S8x28672, .f32⟩
  | .hbm, ⟨3, _⟩ => ⟨S8x28672, .bf16⟩
  | _, _ => ⟨S8x28672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The dense kernel's body over any values, run once from whole staging buffers: what it leaves in the output buffer
is found by the run itself and kept as a term over the four input blocks. -/

/-! ## The kernel body on any staging memrefs: a subtype the run finds -/

/-- Each window's current staging memref at point `t`, spelled as the pipeline passes it (`bodyAt0`), and its wholeness. -/
abbrev ms0_0 (t : Fin cfg0.N) : Memref sig .tc .vmem S8x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S224x1024 .f32 := Memref.whole cc0_scratch0
abbrev scM0_1 : Memref sig .tc .vmem S224x1024 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 2700000 in
/-- The body's triple, with the output it computes: on whole staging buffers, the inputs' at their contents, the output's and the
    two scratch buffers' at anything, the body runs to the continuation holding the inputs as they were, the output at the first
    component, and the scratch at some contents. -/
def bodyRun (c : Dev nD) (i : grid0.Coords) (arg1 : Memref sig .tc .vmem S8x3584 .bf16) (harg1 : arg1.IsWhole) (arg2 : Memref sig .tc .vmem S1792x1024 .i8) (harg2 : arg2.IsWhole)
    (arg3 : Memref sig .tc .vmem S224x1024 .bf16) (harg3 : arg3.IsWhole) (arg4 : Memref sig .tc .vmem S224x1024 .i8) (harg4 : arg4.IsWhole)
    (arg5 : Memref sig .tc .vmem S8x1024 .f32) (harg5 : arg5.IsWhole) (arg6 : Memref sig .tc .vmem S224x1024 .f32) (harg6 : arg6.IsWhole)
    (arg7 : Memref sig .tc .vmem S224x1024 .f32) (harg7 : arg7.IsWhole)
    (x0 : Vec F S8x3584 .bf16) (x1 : Vec F S1792x1024 .i8) (x2 : Vec F S224x1024 .bf16) (x3 : Vec F S224x1024 .i8) :
    { OUT : Vec F S8x1024 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare OUT ∗ (∃ d, owns (c : Thread nD τ) arg6 fullShare d) ∗ (∃ d, owns (c : Thread nD τ) arg7 fullShare d)) -∗ K ⟨⟩))
          ⊢ wp frame (wpE (defs₀ (F := F)) Variants.none c none) E (cc0_dense i arg1 harg1 arg2 harg2 arg3 harg3 arg4 harg4 arg5 harg5 arg6 harg6 arg7 harg7) K } := by
    refine ⟨?_, fun E K => ?_⟩; rotate_left
    simp only [cc0_dense_eq_skeleton]; unfold cc0_dense_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton, k0_part53_eq_skeleton, k0_part54_eq_skeleton,
      k0_part55_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro; exact View.read_writes_full arg5.view _ inb_S8x1024_S8x1024_0_0 _ []
    isplitl [HS0]
    · iexists _, _; isplitr; swap; · iexact HS0
      ipureintro; rfl
    iexists _, _; isplitr; swap; · iexact HS1
    ipureintro; rfl

end Cert.KernelIdeal.Gen

end
-- ==== Proof.Weights.lean ====
module

public import proofs.«01_k».proof.Proof.Body
public import Idealize.ShloMosaic.Lib.Pointwise
public import Idealize.ShloMosaic.Lib.WholeRead
public import Idealize.ShloMosaic.Lib.Pipeline.Value

@[expose] public section

set_option maxRecDepth 16384

noncomputable section

namespace Cert.KernelIdeal.Gen

open Idealize.ShloMosaic Idealize.ShloMosaic.Tactic Idealize.SL.Sem

variable {F : FTy → Type} [FloatOps F]

/-! The weight matrix the body multiplies by, element by element, and what the two scratch buffers hold when they are read. -/

/-- A zero point as the scratch holds it: the byte as bf16, widened to f32. -/
def zeroAt (x3 : Vec F S224x1024 .i8) (y : S224x1024.Idx) : F .f32 :=
  FloatOps.extf .f32 bitsLt_bf16_f32 (FloatOps.uitofp .bf16 (x3 y))

/-- A scale as the scratch holds it: the bf16 scale widened to f32. -/
def scaleAt (x2 : Vec F S224x1024 .bf16) (y : S224x1024.Idx) : F .f32 :=
  FloatOps.extf .f32 bitsLt_bf16_f32 (x2 y)

/-- One 32-row block of zero points, as the body stores it, is the rows of `zeroAt`. -/
theorem zero_piece {arg4 : Memref sig .tc .vmem S224x1024 .i8} (harg4 : arg4.IsWhole) (x3 : Vec F S224x1024 .i8) {o : ℕ}
    (inb : ∀ a, (![o, 0] : Fin 2 → ℕ) a + S32x1024.size a ≤ S224x1024.size a) (x : S32x1024.Idx) :
    shapeCast S32x1024 (extf .f32 (uitofp .bf16 (View.readAt (Elt F) arg4.view (Rect.unit (s := S224x1024) ![o, 0] S32x1024.size inb).toLoadRect
      (harg4.unread x3)) : FVec F S32x1024 .bf16) bitsLt_bf16_f32 : FVec F S32x1024 .f32) shapeCasts_S32x1024_S32x1024 x
      = zeroAt x3 ((Rect.unit (s := S224x1024) ![o, 0] S32x1024.size inb).emb x) := by
  rw [shapeCast_self]
  exact congrArg (fun z => FloatOps.extf .f32 bitsLt_bf16_f32 (FloatOps.uitofp .bf16 z)) (harg4.readAt_unread x3 (Rect.unit (s := S224x1024) ![o, 0] S32x1024.size inb).toLoadRect x)

/-- One 32-row block of scales, as the body stores it, is the rows of `scaleAt`. -/
theorem scale_piece {arg3 : Memref sig .tc .vmem S224x1024 .bf16} (harg3 : arg3.IsWhole) (x2 : Vec F S224x1024 .bf16) {o : ℕ}
    (inb : ∀ a, (![o, 0] : Fin 2 → ℕ) a + S32x1024.size a ≤ S224x1024.size a) (x : S32x1024.Idx) :
    shapeCast S32x1024 (extf .f32 (View.readAt (Elt F) arg3.view (Rect.unit (s := S224x1024) ![o, 0] S32x1024.size inb).toLoadRect
      (harg3.unread x2) : FVec F S32x1024 .bf16) bitsLt_bf16_f32 : FVec F S32x1024 .f32) shapeCasts_S32x1024_S32x1024 x
      = scaleAt x2 ((Rect.unit (s := S224x1024) ![o, 0] S32x1024.size inb).emb x) := by
  rw [shapeCast_self]
  exact congrArg (fun z => FloatOps.extf .f32 bitsLt_bf16_f32 z) (harg3.readAt_unread x2 (Rect.unit (s := S224x1024) ![o, 0] S32x1024.size inb).toLoadRect x)

/-- Row `g` of a 224-row array lies in one of the seven 32-row blocks. -/
theorem row_mem {o : ℕ} (inb : ∀ a, (![o, 0] : Fin 2 → ℕ) a + S32x1024.size a ≤ S224x1024.size a) (y : S224x1024.Idx)
    (h : o ≤ (y 0).val ∧ (y 0).val < o + 32) : y ∈ (Rect.unit (s := S224x1024) ![o, 0] S32x1024.size inb).set := by
  rw [Rect.mem_set_unit]
  intro a
  match a with
  | ⟨0, _⟩ => exact h
  | ⟨1, _⟩ => exact ⟨Nat.zero_le _, by have := (y 1).isLt; simpa using this⟩

/-- The seven 32-row blocks cover the array. -/
theorem rows_cover {e : EltTy} {Val : EltTy → Type} {b0 b1 b2 b3 b4 b5 b6}
    (w0 : (Rect.unit (s := S224x1024) ![0, 0] S32x1024.size b0).shape.Idx → Val e)
    (w1 : (Rect.unit (s := S224x1024) ![32, 0] S32x1024.size b1).shape.Idx → Val e)
    (w2 : (Rect.unit (s := S224x1024) ![64, 0] S32x1024.size b2).shape.Idx → Val e)
    (w3 : (Rect.unit (s := S224x1024) ![96, 0] S32x1024.size b3).shape.Idx → Val e)
    (w4 : (Rect.unit (s := S224x1024) ![128, 0] S32x1024.size b4).shape.Idx → Val e)
    (w5 : (Rect.unit (s := S224x1024) ![160, 0] S32x1024.size b5).shape.Idx → Val e)
    (w6 : (Rect.unit (s := S224x1024) ![192, 0] S32x1024.size b6).shape.Idx → Val e) (y : S224x1024.Idx) :
    ∃ p ∈ ([⟨Rect.unit ![192, 0] S32x1024.size b6, w6⟩, ⟨Rect.unit ![160, 0] S32x1024.size b5, w5⟩,
      ⟨Rect.unit ![128, 0] S32x1024.size b4, w4⟩, ⟨Rect.unit ![96, 0] S32x1024.size b3, w3⟩,
      ⟨Rect.unit ![64, 0] S32x1024.size b2, w2⟩, ⟨Rect.unit ![32, 0] S32x1024.size b1, w1⟩,
      ⟨Rect.unit ![0, 0] S32x1024.size b0, w0⟩] : List (View.Piece Val S224x1024 e)), y ∈ p.1.set := by
  have hy : (y 0).val < 224 := (y 0).isLt
  simp only [List.mem_cons, List.not_mem_nil, or_false, exists_eq_or_imp, exists_eq_left]
  by_cases h6 : 192 ≤ (y 0).val
  · exact .inl (row_mem _ y ⟨h6, by omega⟩)
  by_cases h5 : 160 ≤ (y 0).val
  · exact .inr (.inl (row_mem _ y ⟨h5, by omega⟩))
  by_cases h4 : 128 ≤ (y 0).val
  · exact .inr (.inr (.inl (row_mem _ y ⟨h4, by omega⟩)))
  by_cases h3 : 96 ≤ (y 0).val
  · exact .inr (.inr (.inr (.inl (row_mem _ y ⟨h3, by omega⟩))))
  by_cases h2 : 64 ≤ (y 0).val
  · exact .inr (.inr (.inr (.inr (.inl (row_mem _ y ⟨h2, by omega⟩)))))
  by_cases h1 : 32 ≤ (y 0).val
  · exact .inr (.inr (.inr (.inr (.inr (.inl (row_mem _ y ⟨h1, by omega⟩))))))
  exact .inr (.inr (.inr (.inr (.inr (.inr (row_mem _ y ⟨Nat.zero_le _, by omega⟩))))))

/-- What the zero-point scratch holds after the body's seven stores, at any index. -/
theorem zero_scratch (c : Dev nD) {arg4 : Memref sig .tc .vmem S224x1024 .i8} (harg4 : arg4.IsWhole) (v : View sig .tc .vmem S224x1024 .f32)
    (f : v.ty.Contents (Elt F)) (x3 : Vec F S224x1024 .i8) (y : S224x1024.Idx) :
    v.read (Elt F) (v.writes (Elt F) f (bodyRun.sl.HS1_7 c arg4 harg4 x3)) y = zeroAt x3 y := by
  refine View.read_writes_apply_of_pieces v f (zeroAt x3) _ ?_ y (rows_cover _ _ _ _ _ _ _ y)
  intro p hp
  simp only [bodyRun.sl.HS1_7, List.mem_cons, List.not_mem_nil, or_false] at hp
  rcases hp with rfl | rfl | rfl | rfl | rfl | rfl | rfl <;> exact fun x => zero_piece harg4 x3 _ x

/-- What the scale scratch holds after the body's seven stores, at any index. -/
theorem scale_scratch (c : Dev nD) {arg3 : Memref sig .tc .vmem S224x1024 .bf16} (harg3 : arg3.IsWhole) (v : View sig .tc .vmem S224x1024 .f32)
    (f : v.ty.Contents (Elt F)) (x2 : Vec F S224x1024 .bf16) (y : S224x1024.Idx) :
    v.read (Elt F) (v.writes (Elt F) f (bodyRun.sl.HS0_7 c arg3 harg3 x2)) y = scaleAt x2 y := by
  refine View.read_writes_apply_of_pieces v f (scaleAt x2) _ ?_ y (rows_cover _ _ _ _ _ _ _ y)
  intro p hp
  simp only [bodyRun.sl.HS0_7, List.mem_cons, List.not_mem_nil, or_false] at hp
  rcases hp with rfl | rfl | rfl | rfl | rfl | rfl | rfl <;> exact fun x => scale_piece harg3 x2 _ x

/-- A row-`g` load repeated down 16 rows reads the zero points of group `g`. -/
theorem zero_load (c : Dev nD) {arg4 : Memref sig .tc .vmem S224x1024 .i8} (harg4 : arg4.IsWhole) (v : View sig .tc .vmem S224x1024 .f32)
    (x3 : Vec F S224x1024 .i8) (g : Fin 224) (inb) (i : S16x1024.Idx) :
    v.readCov (bodyRun.sl.HS1_7 c arg4 harg4 x3) (⟨![g.val, 0], S16x1024.size, ![0, 1], inb⟩ : LoadRect S224x1024) i
      = zeroAt x3 (ix2 g (i 1)) :=
  (zero_scratch c harg4 v _ x3 _).trans (congrArg (zeroAt x3) (by
    funext a
    match a with
    | ⟨0, _⟩ => exact Fin.ext (by show g.val + 0 * (i 0).val = g.val; omega)
    | ⟨1, _⟩ => exact Fin.ext (by show 0 + 1 * (i 1).val = (i 1).val; omega)))

/-- A row-`g` load repeated down 16 rows reads the scales of group `g`. -/
theorem scale_load (c : Dev nD) {arg3 : Memref sig .tc .vmem S224x1024 .bf16} (harg3 : arg3.IsWhole) (v : View sig .tc .vmem S224x1024 .f32)
    (x2 : Vec F S224x1024 .bf16) (g : Fin 224) (inb) (i : S16x1024.Idx) :
    v.readCov (bodyRun.sl.HS0_7 c arg3 harg3 x2) (⟨![g.val, 0], S16x1024.size, ![0, 1], inb⟩ : LoadRect S224x1024) i
      = scaleAt x2 (ix2 g (i 1)) :=
  (scale_scratch c harg3 v _ x2 _).trans (congrArg (scaleAt x2) (by
    funext a
    match a with
    | ⟨0, _⟩ => exact Fin.ext (by show g.val + 0 * (i 0).val = g.val; omega)
    | ⟨1, _⟩ => exact Fin.ext (by show 0 + 1 * (i 1).val = (i 1).val; omega)))

/-- The 4-bit code of row `r` in the byte that holds it: the low half in an even row, the high half in an odd one, as the body
    shifts and masks it. -/
def codeAt (w : BitVec 8) (r : ℕ) : BitVec 32 :=
  IntOp.andi (IntOp.shrsi .vector (w.setWidth 32) (IntOp.muli (IntOp.andi (BitVec.ofNat 32 r) 1#32) 4#32)) 15#32

/-- Row `r`, column `c` of the weight matrix: (code − zero point) · scale, the group of row `r` being `r / 16`. -/
def weightAt (x1 : Vec F S1792x1024 .i8) (x2 : Vec F S224x1024 .bf16) (x3 : Vec F S224x1024 .i8) (j : S3584x1024.Idx) : F .bf16 :=
  have hj : (j 0).val < 3584 := (j 0).isLt
  FloatOps.mulf (FloatOps.subf (FloatOps.sitofp .bf16 (codeAt (x1 (ix2 ⟨(j 0).val / 2, by omega⟩ (j 1))) ((j 0).val % 64)))
      (FloatOps.truncf .bf16 bitsLt_bf16_f32 (zeroAt x3 (ix2 ⟨(j 0).val / 16, by omega⟩ (j 1)))))
    (FloatOps.truncf .bf16 bitsLt_bf16_f32 (scaleAt x2 (ix2 ⟨(j 0).val / 16, by omega⟩ (j 1))))

/-- The 16 rows of group `g`. -/
def group (x1 : Vec F S1792x1024 .i8) (x2 : Vec F S224x1024 .bf16) (x3 : Vec F S224x1024 .i8) (g : Fin 224) : FVec F S16x1024 .bf16 :=
  fun i => have hi : (i 0).val < 16 := (i 0).isLt
    weightAt x1 x2 x3 (ix2 ⟨16 * g.val + (i 0).val, by omega⟩ (i 1))

/-- The codes of 32 rows of bytes, 64 rows of them, as the body unpacks them. -/
def codes (v : Vec F S32x1024 .i8) : FVec F S64x1024 .bf16 :=
  sitofp .bf16 (andi (shrsi (shapeCast S64x1024 (broadcastTo S32x2x1024 (shapeCast S32x1x1024 (extui 32 v natLt_8_32 : IVec S32x1024 32)
    shapeCasts_S32x1024_S32x1x1024) broadcasts_S32x1x1024_S32x2x1024) shapeCasts_S32x2x1024_S64x1024) k0_pay16) (broadcast S64x1024 15#32))

/-- The unpacked codes at an index. -/
theorem codes_apply (v : Vec F S32x1024 .i8) (r : Fin 64) (k : Fin 1024) :
    codes v (ix2 r k) = FloatOps.sitofp .bf16 (codeAt (v (ix2 ⟨r.val / 2, by omega⟩ k)) r.val) := by
  unfold codes codeAt k0_pay16
  pointwise

/-- The 16 rows of group `g` as the body computes them, from the byte rows of the four groups it unpacks together and the two
    scratch rows of the group. -/
theorem group_eq (c : Dev nD) {arg2 : Memref sig .tc .vmem S1792x1024 .i8} (harg2 : arg2.IsWhole)
    {arg3 : Memref sig .tc .vmem S224x1024 .bf16} (harg3 : arg3.IsWhole) {arg4 : Memref sig .tc .vmem S224x1024 .i8} (harg4 : arg4.IsWhole)
    (v6 v7 : View sig .tc .vmem S224x1024 .f32) (x1 : Vec F S1792x1024 .i8) (x2 : Vec F S224x1024 .bf16) (x3 : Vec F S224x1024 .i8)
    (g : Fin 224) {o p : ℕ} (ho : o = 32 * (g.val / 4)) (hp : p = 16 * (g.val % 4))
    (inb : ∀ a, (![o, 0] : Fin 2 → ℕ) a + S32x1024.size a ≤ S1792x1024.size a) (hs : S64x1024.Slices ![p, 0] S16x1024) (inb7 inb6) :
    mulf (subf (extractStridedSlice S16x1024 ![p, 0] (codes (View.readAt (Elt F) arg2.view
        (Rect.unit (s := S1792x1024) ![o, 0] S32x1024.size inb).toLoadRect (harg2.unread x1))) hs)
        (truncf .bf16 (v7.readCov (bodyRun.sl.HS1_7 c arg4 harg4 x3) (⟨![g.val, 0], S16x1024.size, ![0, 1], inb7⟩ : LoadRect S224x1024)) bitsLt_bf16_f32))
      (truncf .bf16 (v6.readCov (bodyRun.sl.HS0_7 c arg3 harg3 x2) (⟨![g.val, 0], S16x1024.size, ![0, 1], inb6⟩ : LoadRect S224x1024)) bitsLt_bf16_f32)
      = group x1 x2 x3 g := by
  funext i
  have hi : (i 0).val < 16 := (i 0).isLt
  have hg := g.isLt
  have hc : extractStridedSlice S16x1024 ![p, 0] (codes (View.readAt (Elt F) arg2.view
      (Rect.unit (s := S1792x1024) ![o, 0] S32x1024.size inb).toLoadRect (harg2.unread x1))) hs i
      = FloatOps.sitofp .bf16 (codeAt (x1 (ix2 ⟨(16 * g.val + (i 0).val) / 2, by omega⟩ (i 1))) ((16 * g.val + (i 0).val) % 64)) := by
    have e : extractStridedSlice S16x1024 ![p, 0] (codes (View.readAt (Elt F) arg2.view
        (Rect.unit (s := S1792x1024) ![o, 0] S32x1024.size inb).toLoadRect (harg2.unread x1))) hs i
        = codes (View.readAt (Elt F) arg2.view (Rect.unit (s := S1792x1024) ![o, 0] S32x1024.size inb).toLoadRect (harg2.unread x1))
            (ix2 ⟨p + (i 0).val, by omega⟩ (i 1)) := by
      refine congrArg (codes _) ?_
      funext a
      match a with
      | ⟨0, _⟩ => exact Fin.ext rfl
      | ⟨1, _⟩ => exact Fin.ext (Nat.zero_add _)
    refine e.trans ((codes_apply _ _ _).trans ?_)
    have eb : View.readAt (Elt F) arg2.view (Rect.unit (s := S1792x1024) ![o, 0] S32x1024.size inb).toLoadRect (harg2.unread x1)
        (ix2 (n0 := 32) (n1 := 1024) ⟨(p + (i 0).val) / 2, by omega⟩ (i 1)) = x1 (ix2 ⟨(16 * g.val + (i 0).val) / 2, by omega⟩ (i 1)) := by
      refine (harg2.readAt_unread x1 (Rect.unit (s := S1792x1024) ![o, 0] S32x1024.size inb).toLoadRect _).trans (congrArg x1 ?_)
      funext a
      match a with
      | ⟨0, _⟩ => exact Fin.ext (by show o + 1 * ((p + (i 0).val) / 2) = (16 * g.val + (i 0).val) / 2; omega)
      | ⟨1, _⟩ => exact Fin.ext (by show 0 + 1 * (i 1).val = (i 1).val; omega)
    have en : p + (i 0).val = (16 * g.val + (i 0).val) % 64 := by omega
    exact congrArg (FloatOps.sitofp .bf16) (congrArg₂ codeAt eb en)
  have e16 : (⟨(16 * g.val + (i 0).val) / 16, by omega⟩ : Fin 224) = g := Fin.ext (by show (16 * g.val + (i 0).val) / 16 = g.val; omega)
  have hz := (zero_load c harg4 v7 x3 g inb7 i).trans (congrArg (fun k => zeroAt x3 (ix2 k (i 1))) e16.symm)
  have hq := (scale_load c harg3 v6 x2 g inb6 i).trans (congrArg (fun k => scaleAt x2 (ix2 k (i 1))) e16.symm)
  exact congrArg₂ (FloatOps.mulf (F := F) (φ := .bf16))
    (congrArg₂ (FloatOps.subf (F := F) (φ := .bf16)) hc (congrArg (FloatOps.truncf (F := F) .bf16 bitsLt_bf16_f32) hz))
    (congrArg (FloatOps.truncf (F := F) .bf16 bitsLt_bf16_f32) hq)

/-- A list of 16-row pieces is `f g, f (g + 1), …`, stated piece by piece. -/
inductive From {α : Type} {s : Shape} (f : ℕ → s.Idx → α) : ℕ → List ((s : Shape) × (s.Idx → α)) → Prop
  | nil (g : ℕ) : From f g []
  | cons {g : ℕ} {p : s.Idx → α} {L : List ((s : Shape) × (s.Idx → α))} : p = f g → From f (g + 1) L → From f g (⟨s, p⟩ :: L)

theorem From.eq_ofFn {α : Type} {s : Shape} {f : ℕ → s.Idx → α} {g : ℕ} {L : List ((s : Shape) × (s.Idx → α))} (h : From f g L) :
    ∀ n, L.length = n → L = List.ofFn fun k : Fin n => ⟨s, f (g + k.val)⟩ := by
  induction h with
  | nil g => rintro n rfl; rfl
  | @cons g p L hp _ ih =>
    rintro n rfl
    rw [List.length_cons, List.ofFn_succ, ih L.length rfl, hp]
    simp [Nat.add_assoc, Nat.add_comm 1]

end Cert.KernelIdeal.Gen

end
-- ==== Proof.Output.lean ====
module

public import proofs.«01_k».proof.Proof.Weights

@[expose] public section

set_option maxRecDepth 16384

noncomputable section

namespace Cert.KernelIdeal.Gen

open Idealize.ShloMosaic Idealize.ShloMosaic.Tactic Idealize.SL.Sem

variable {F : FTy → Type} [FloatOps F]

/-! The body's output block as one matrix product: the 224 pieces it computes are the 224 groups of the weight matrix, in order. -/

/-- The output block: the activations times the weight block. -/
def denseBlock (x0 : Vec F S8x3584 .bf16) (x1 : Vec F S1792x1024 .i8) (x2 : Vec F S224x1024 .bf16) (x3 : Vec F S224x1024 .i8) : FVec F S8x1024 .f32 :=
  matmul dot_S8x3584_S3584x1024_S8x1024_1_0_0_1_n_n none x0 (weightAt x1 x2 x3 : FVec F S3584x1024 .bf16) (constant S8x1024 .f32 0x00000000#32)

/-- Piece `g` of the list the body concatenates. -/
abbrev piece (x1 : Vec F S1792x1024 .i8) (x2 : Vec F S224x1024 .bf16) (x3 : Vec F S224x1024 .i8) (g : ℕ) : S16x1024.Idx → F .bf16 :=
  group x1 x2 x3 (Fin.ofNat 224 g)

/-- The groups laid one under the other are the weight matrix. -/
theorem concat_groups (x1 : Vec F S1792x1024 .i8) (x2 : Vec F S224x1024 .bf16) (x3 : Vec F S224x1024 .i8)
    {L : List ((s : Shape) × (s.Idx → F .bf16))} (hL : From (piece x1 x2 x3) 0 L) (hlen : L.length = 224)
    (h : Shape.Concatenates (L.map (·.1)) S3584x1024 0) : concatenate S3584x1024 0 L h = weightAt x1 x2 x3 := by
  obtain rfl := hL.eq_ofFn 224 hlen
  funext j
  have hj : (j 0).val < 3584 := (j 0).isLt
  refine (concatenate_ofFn_apply (t := S3584x1024) (s₁ := S16x1024) (0 : Fin 2) (fun k : Fin 224 => piece x1 x2 x3 (0 + k.val)) h rfl 16 rfl j
    ⟨(j 0).val / 16, by omega⟩ rfl (ix2 ⟨(j 0).val % 16, by omega⟩ (j 1)) rfl ?_).trans ?_
  · intro b hb
    match b with
    | ⟨0, _⟩ => exact absurd rfl hb
    | ⟨1, _⟩ => rfl
  · have hk : (Fin.ofNat 224 (0 + (j 0).val / 16)).val = (j 0).val / 16 := by
      show (0 + (j 0).val / 16) % 224 = _; omega
    refine congrArg (weightAt x1 x2 x3) ?_
    funext a
    match a with
    | ⟨0, _⟩ => exact Fin.ext (by show 16 * (Fin.ofNat 224 (0 + (j 0).val / 16)).val + (j 0).val % 16 = (j 0).val; rw [hk]; omega)
    | ⟨1, _⟩ => rfl

/-- `group_eq` at the piece's number: every offset the body reads at is that number's. -/
theorem piece_eq (c : Dev nD) {arg2 : Memref sig .tc .vmem S1792x1024 .i8} (harg2 : arg2.IsWhole)
    {arg3 : Memref sig .tc .vmem S224x1024 .bf16} (harg3 : arg3.IsWhole) {arg4 : Memref sig .tc .vmem S224x1024 .i8} (harg4 : arg4.IsWhole)
    (v6 v7 : View sig .tc .vmem S224x1024 .f32) (x1 : Vec F S1792x1024 .i8) (x2 : Vec F S224x1024 .bf16) (x3 : Vec F S224x1024 .i8)
    {g G o p : ℕ} {inb inb7 inb6} (hG : g = G) (hlt : G < 224) (ho : o = 32 * (G / 4))
    (hp : p = 16 * (G % 4)) (hs : S64x1024.Slices ![p, 0] S16x1024) :
    mulf (subf (extractStridedSlice S16x1024 ![p, 0] (codes (View.readAt (Elt F) arg2.view
        (Rect.unit (s := S1792x1024) ![o, 0] S32x1024.size inb).toLoadRect (harg2.unread x1))) hs)
        (truncf .bf16 (v7.readCov (bodyRun.sl.HS1_7 c arg4 harg4 x3) (⟨![G, 0], S16x1024.size, ![0, 1], inb7⟩ : LoadRect S224x1024)) bitsLt_bf16_f32))
      (truncf .bf16 (v6.readCov (bodyRun.sl.HS0_7 c arg3 harg3 x2) (⟨![G, 0], S16x1024.size, ![0, 1], inb6⟩ : LoadRect S224x1024)) bitsLt_bf16_f32)
      = piece x1 x2 x3 g := by
  subst hG
  have e : Fin.ofNat 224 g = ⟨g, hlt⟩ := Fin.ext (Nat.mod_eq_of_lt hlt)
  rw [piece, e]
  exact group_eq c harg2 harg3 harg4 v6 v7 x1 x2 x3 ⟨g, hlt⟩ ho hp inb hs inb7 inb6

/-- A piece follows: the number it must have fixes every offset of its expression. -/
theorem piece_cons (c : Dev nD) {arg2 : Memref sig .tc .vmem S1792x1024 .i8} (harg2 : arg2.IsWhole)
    {arg3 : Memref sig .tc .vmem S224x1024 .bf16} (harg3 : arg3.IsWhole) {arg4 : Memref sig .tc .vmem S224x1024 .i8} (harg4 : arg4.IsWhole)
    (v6 v7 : View sig .tc .vmem S224x1024 .f32) (x1 : Vec F S1792x1024 .i8) (x2 : Vec F S224x1024 .bf16) (x3 : Vec F S224x1024 .i8)
    (G : ℕ) {inb inb7 inb6} (hs : S64x1024.Slices ![16 * (G % 4), 0] S16x1024) {q : Vec F S16x1024 .bf16} {L : List ((s : Shape) × (s.Idx → F .bf16))}
    (hq : q = mulf (subf (extractStridedSlice S16x1024 ![16 * (G % 4), 0] (codes (View.readAt (Elt F) arg2.view
        (Rect.unit (s := S1792x1024) ![32 * (G / 4), 0] S32x1024.size inb).toLoadRect (harg2.unread x1))) hs)
        (truncf .bf16 (v7.readCov (bodyRun.sl.HS1_7 c arg4 harg4 x3) (⟨![G, 0], S16x1024.size, ![0, 1], inb7⟩ : LoadRect S224x1024)) bitsLt_bf16_f32))
      (truncf .bf16 (v6.readCov (bodyRun.sl.HS0_7 c arg3 harg3 x2) (⟨![G, 0], S16x1024.size, ![0, 1], inb6⟩ : LoadRect S224x1024)) bitsLt_bf16_f32))
    (hlt : G < 224) (hL : From (piece x1 x2 x3) (G + 1) L) : From (piece x1 x2 x3) G (⟨S16x1024, q⟩ :: L) :=
  .cons (hq.trans (piece_eq c harg2 harg3 harg4 v6 v7 x1 x2 x3 rfl hlt rfl rfl hs)) hL

set_option maxHeartbeats 4000000 in
/-- What the body leaves in its output buffer is the block product. -/
theorem body_out (c : Dev nD) (i : grid0.Coords) (arg1 : Memref sig .tc .vmem S8x3584 .bf16) (harg1 : arg1.IsWhole) (arg2 : Memref sig .tc .vmem S1792x1024 .i8) (harg2 : arg2.IsWhole)
    (arg3 : Memref sig .tc .vmem S224x1024 .bf16) (harg3 : arg3.IsWhole) (arg4 : Memref sig .tc .vmem S224x1024 .i8) (harg4 : arg4.IsWhole)
    (arg5 : Memref sig .tc .vmem S8x1024 .f32) (harg5 : arg5.IsWhole) (arg6 : Memref sig .tc .vmem S224x1024 .f32) (harg6 : arg6.IsWhole)
    (arg7 : Memref sig .tc .vmem S224x1024 .f32) (harg7 : arg7.IsWhole)
    (x0 : Vec F S8x3584 .bf16) (x1 : Vec F S1792x1024 .i8) (x2 : Vec F S224x1024 .bf16) (x3 : Vec F S224x1024 .i8) :
    (bodyRun c i arg1 harg1 arg2 harg2 arg3 harg3 arg4 harg4 arg5 harg5 arg6 harg6 arg7 harg7 x0 x1 x2 x3).1 = denseBlock x0 x1 x2 x3 := by
  show bodyRun.sl.r_324 c arg1 harg1 arg2 harg2 arg3 harg3 arg4 harg4 arg6 arg7 x0 x1 x2 x3 = _
  unfold bodyRun.sl.r_324 k0_pay361
  refine congrArg₂ (fun a b => matmul dot_S8x3584_S3584x1024_S8x1024_1_0_0_1_n_n none a b (constant S8x1024 .f32 0x00000000#32)) ?_ ?_
  · rw [shapeCast_self]
    funext y
    refine (harg1.readAt_unread x0 (Rect.unit (s := S8x3584) ![0, 0] S8x3584.size inb_S8x3584_S8x3584_0_0).toLoadRect y).trans (congrArg x0 ?_)
    funext a
    match a with
    | ⟨0, _⟩ => exact Fin.ext (by show 0 + 1 * (y 0).val = (y 0).val; omega)
    | ⟨1, _⟩ => exact Fin.ext (by show 0 + 1 * (y 1).val = (y 1).val; omega)
  · refine concat_groups x1 x2 x3 ?_ rfl _
    iterate 224 refine piece_cons c harg2 harg3 harg4 arg6.view arg7.view x1 x2 x3 _ (by decide) rfl (by decide) ?_
    exact From.nil _

end Cert.KernelIdeal.Gen

end
-- ==== Proof.Run.lean ====
module

public import proofs.«01_k».proof.Proof.Output
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them; after the body at point `t` each
    input's buffer at its block, the output's at the block product of the four; the scratch and the generator register in the
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => denseBlock (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = denseBlock (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4,
    ← body_out c (grid0.coords t) _ (hs0_0 t) _ (hs0_1 t) _ (hs0_2 t) _ (hs0_3 t) _ (hs0_4 t) scM0_0 (Memref.isWhole_whole _) scM0_1 (Memref.isWhole_whole _) (iblk m c 0 t) (iblk m c 1 t) (iblk m c 2 t) (iblk m c 3 t)]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((bodyRun c (grid0.coords t) _ (hs0_0 t) _ (hs0_1 t) _ (hs0_2 t) _ (hs0_3 t) _ (hs0_4 t) scM0_0 (Memref.isWhole_whole _) scM0_1 (Memref.isWhole_whole _) (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: every final state has each window's array as the proof data's blocks leave it, every other unscoped buffer at
    its region-entry contents, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- `run_main_quiescent` without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, at any values: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Blocks.lean ====
module

public import proofs.«01_k».proof.Proof.Run
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)

/-! Over the reals: the output array after the run, at an index, as a sum over the 3584 weight rows. -/

/-- The weight of row `k`, column `n` of the whole matrix: (code − zero point) · scale. -/
def weight (W : Vec Ideal S1792x28672 .i8) (S : Vec Ideal S224x28672 .bf16) (Z : Vec Ideal S224x28672 .i8) (k : Fin 3584) (n : Fin 28672) : EReal :=
  ((FloatOps.sitofp (F := Ideal) .bf16 (codeAt (W (ix2 ⟨k.val / 2, by omega⟩ n)) (k.val % 64)) : EReal)
      - (FloatOps.uitofp (F := Ideal) .bf16 (Z (ix2 ⟨k.val / 16, by omega⟩ n)) : EReal))
    * (S (ix2 ⟨k.val / 16, by omega⟩ n) : EReal)

/-- The whole product. -/
def product (X : Vec Ideal S8x3584 .bf16) (W : Vec Ideal S1792x28672 .i8) (S : Vec Ideal S224x28672 .bf16) (Z : Vec Ideal S224x28672 .i8) :
    Vec Ideal S8x28672 .f32 :=
  fun i => ∑ k : Fin 3584, (X (ix2 (i 0) k) : EReal) * weight W S Z k (i 1)

/-- A block of the product at an index. -/
theorem denseBlock_apply (x0 : Vec Ideal S8x3584 .bf16) (x1 : Vec Ideal S1792x1024 .i8) (x2 : Vec Ideal S224x1024 .bf16) (x3 : Vec Ideal S224x1024 .i8)
    (j : S8x1024.Idx) : denseBlock x0 x1 x2 x3 j = ∑ k : Fin 3584, (x0 (ix2 (j 0) k) : EReal) * (weightAt x1 x2 x3 (ix2 k (j 1)) : EReal) := by
  unfold denseBlock
  pointwise

/-- The index maps: the activations are one block; of the other arrays point `t` has the `t`-th block of columns. -/
theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 2) = 0 ∧ win0_1.index t (1 : Fin 2) = t.val := (by decide +kernel : ∀ t : Fin grid0.N, _)
theorem index2 : ∀ t : Fin cfg0.N, win0_2.index t (0 : Fin 2) = 0 ∧ win0_2.index t (1 : Fin 2) = t.val := (by decide +kernel : ∀ t : Fin grid0.N, _)
theorem index3 : ∀ t : Fin cfg0.N, win0_3.index t (0 : Fin 2) = 0 ∧ win0_3.index t (1 : Fin 2) = t.val := (by decide +kernel : ∀ t : Fin grid0.N, _)
theorem index4 : ∀ t : Fin cfg0.N, win0_4.index t (0 : Fin 2) = 0 ∧ win0_4.index t (1 : Fin 2) = t.val := (by decide +kernel : ∀ t : Fin grid0.N, _)

variable (m : (ℓ : Loc nD τ sig) → Buf (Elt Ideal) ℓ) (ρ : Dev nD → PrngReg)

/-- The output array after the run. -/
theorem final4 (c : Dev nD) : (dats m 0 c).arrAt 4 cfg0.N = product (V m c main_v0) (V m c main_arg1) (V m c main_arg2) (V m c main_arg3) := by
  refine (dats m 0 c).arrAt_eq_of_covers 4 _ (by decide +kernel) fun t hf y => ?_
  blk_simp
  rw [after0_4, denseBlock_apply]
  obtain ⟨e00, e01⟩ := index0 t
  obtain ⟨e10, e11⟩ := index1 t
  obtain ⟨e20, e21⟩ := index2 t
  obtain ⟨e30, e31⟩ := index3 t
  obtain ⟨e40, e41⟩ := index4 t
  unfold product
  refine (Finset.sum_congr (ι := Fin 3584) (M := EReal) rfl fun k _ => ?_)
  refine congrArg₂ (fun a b : EReal => a * b) ?_ ?_
  · blk_ext [iblk, e00, e01, e40, e41]
  · unfold weightAt weight zeroAt scaleAt
    refine congrArg₂ (fun a b : EReal => a * b) (congrArg₂ (fun a b : EReal => a - b) ?_ ?_) ?_
    · refine congrArg (fun w => FloatOps.sitofp (F := Ideal) .bf16 (codeAt w (k.val % 64))) ?_
      blk_ext [iblk, e10, e11, e40, e41]
    · refine congrArg (FloatOps.uitofp (F := Ideal) .bf16) ?_
      blk_ext [iblk, e30, e31, e40, e41]
    · show iblk m c 2 t _ = _
      blk_ext [iblk, e20, e21, e40, e41]

end Cert.KernelIdeal.Gen

end
-- ==== Proof.Value.lean ====
module

public import proofs.«01_k».proof.Proof.Blocks
public import proofs.«01_k».proof.Proof.Gen.ReferenceIdeal.Run
public import proofs.«01_k».proof.Proof.Gen.ReferenceIdeal.Read

@[expose] public section

set_option maxRecDepth 16384

noncomputable section

namespace Cert.Proof.Value

open Idealize.ShloMosaic Idealize.ShloMosaic.TcCoe Idealize.ShloMosaic.Tactic
open Idealize.SL.Sem
open Cert.KernelIdeal.Gen (weight product codeAt)
open Cert.ReferenceIdeal Cert.ReferenceIdeal.Read

/-! Over the reals the reference's two sums, over the even and over the odd weight rows, are the kernel's one sum over all. -/

/-- The low half of a byte is the code of every even row. -/
theorem code_even (w : BitVec 8) (k : Fin 1792) : IntOp.andi (w.setWidth 32) 15#32 = codeAt w (2 * k.val % 64) := by
  have key : ∀ r < 32, ∀ w : BitVec 8, IntOp.andi (w.setWidth 32) 15#32 = codeAt w (2 * r) := by
    unfold codeAt; decide +kernel
  have h := key (k.val % 32) (Nat.mod_lt _ (by decide)) w
  rwa [show 2 * (k.val % 32) = 2 * k.val % 64 by omega] at h

/-- The high half of a byte is the code of every odd row. -/
theorem code_odd (w : BitVec 8) (k : Fin 1792) : IntOp.shrsi .host (w.setWidth 32) 4#32 = codeAt w ((2 * k.val + 1) % 64) := by
  have key : ∀ r < 32, ∀ w : BitVec 8, IntOp.shrsi .host (w.setWidth 32) 4#32 = codeAt w (2 * r + 1) := by
    unfold codeAt; decide +kernel
  have h := key (k.val % 32) (Nat.mod_lt _ (by decide)) w
  rwa [show 2 * (k.val % 32) + 1 = (2 * k.val + 1) % 64 by omega] at h

/-- A byte read as an unsigned integer, or widened to 32 bits and read as a signed one. -/
theorem zero_point (z : BitVec 8) : FloatOps.sitofp (F := Ideal) .bf16 (z.setWidth 32) = FloatOps.uitofp (F := Ideal) .bf16 z := by
  have key : ∀ z : BitVec 8, (z.setWidth 32 : BitVec 32).toInt = (z.toNat : ℤ) := by decide +kernel
  have h := key z
  show (((z.setWidth 32 : BitVec 32).toInt : ℝ) : EReal) = (((z.toNat : ℕ) : ℝ) : EReal)
  rw [h, Int.cast_natCast]

/-- Where the reference reads the group of row `k`, column `n`. -/
theorem group_idx (k : Fin 1792) (n : Fin 28672) (g : Fin 224) (hg : g.val = k.val / 8) :
    idx_main_v10 (idx_main_v12 (idx_main_v16 (ix2 k n))) = ix2 g n := by
  funext a
  match a with
  | ⟨0, _⟩ => exact Fin.ext (by show (k.val * 28672 + n.val) / 229376 = g.val; omega)
  | ⟨1, _⟩ => exact Fin.ext (by show (k.val * 28672 + n.val) % 28672 = n.val; omega)

/-- The reference's weights of the even rows. -/
theorem even_apply (x1 : Vec Ideal S1792x28672 .i8) (x2 : Vec Ideal S224x28672 .bf16) (x3 : Vec Ideal S224x28672 .i8) (k : Fin 1792) (n : Fin 28672) :
    val_main_v16 (F := Ideal) x1 x2 x3 (ix2 k n) = weight x1 x2 x3 ⟨2 * k.val, by omega⟩ n := by
  rw [val_main_v16_apply, val_main_v15_apply, val_main_v13_apply, val_main_v7_apply, val_main_v6_apply, val_main_v2_apply, val_main_v0_apply, val_main_v1_apply, val_main_c_apply, val_main_v12_apply, val_main_v10_apply, val_main_v9_apply, val_main_v8_apply, val_main_v14_apply, val_main_v11_apply,
    zero_point, code_even _ k]
  unfold weight
  refine congrArg₂ (fun a b : EReal => a * b) (congrArg₂ (fun a b : EReal => a - b) ?_ ?_) ?_
  · refine congrArg (fun w => FloatOps.sitofp (F := Ideal) .bf16 (codeAt w ((2 * k.val) % 64))) (congrArg x1 ?_)
    funext a
    match a with
    | ⟨0, _⟩ => exact Fin.ext (by
        show (((k.val * 28672 + n.val) / 229376 * 8 + (k.val * 28672 + n.val) / 28672 % 8) * 28672 + (k.val * 28672 + n.val) % 28672) / 28672 = (2 * k.val) / 2
        omega)
    | ⟨1, _⟩ => exact Fin.ext (by
        show (((k.val * 28672 + n.val) / 229376 * 8 + (k.val * 28672 + n.val) / 28672 % 8) * 28672 + (k.val * 28672 + n.val) % 28672) % 28672 = n.val
        omega)
  · exact congrArg (fun j => FloatOps.uitofp (F := Ideal) .bf16 (x3 j)) (group_idx k n _ (by show (2 * k.val) / 16 = k.val / 8; omega))
  · exact congrArg x2 (group_idx k n _ (by show (2 * k.val) / 16 = k.val / 8; omega))

/-- The reference's weights of the odd rows. -/
theorem odd_apply (x1 : Vec Ideal S1792x28672 .i8) (x2 : Vec Ideal S224x28672 .bf16) (x3 : Vec Ideal S224x28672 .i8) (k : Fin 1792) (n : Fin 28672) :
    val_main_v27 (F := Ideal) x1 x2 x3 (ix2 k n) = weight x1 x2 x3 ⟨2 * k.val + 1, by omega⟩ n := by
  rw [val_main_v27_apply, val_main_v26_apply, val_main_v24_apply, val_main_v18_apply, val_main_v17_apply, val_main_v5_apply, val_main_v3_apply, val_main_v4_apply, val_main_c_0_apply, val_main_v23_apply, val_main_v21_apply, val_main_v20_apply, val_main_v19_apply, val_main_v25_apply, val_main_v22_apply,
    zero_point, code_odd _ k]
  unfold weight
  refine congrArg₂ (fun a b : EReal => a * b) (congrArg₂ (fun a b : EReal => a - b) ?_ ?_) ?_
  · refine congrArg (fun w => FloatOps.sitofp (F := Ideal) .bf16 (codeAt w ((2 * k.val + 1) % 64))) (congrArg x1 ?_)
    funext a
    match a with
    | ⟨0, _⟩ => exact Fin.ext (by
        show (((k.val * 28672 + n.val) / 229376 * 8 + (k.val * 28672 + n.val) / 28672 % 8) * 28672 + (k.val * 28672 + n.val) % 28672) / 28672 = (2 * k.val + 1) / 2
        omega)
    | ⟨1, _⟩ => exact Fin.ext (by
        show (((k.val * 28672 + n.val) / 229376 * 8 + (k.val * 28672 + n.val) / 28672 % 8) * 28672 + (k.val * 28672 + n.val) % 28672) % 28672 = n.val
        omega)
  · exact congrArg (fun j => FloatOps.uitofp (F := Ideal) .bf16 (x3 j)) (group_idx k n _ (by show (2 * k.val + 1) / 16 = k.val / 8; omega))
  · exact congrArg x2 (group_idx k n _ (by show (2 * k.val + 1) / 16 = k.val / 8; omega))

/-- A sum over the rows is the sum over the even ones and the sum over the odd ones. -/
theorem sum_even_odd (f : Fin 3584 → EReal) :
    ∑ k, f k = (∑ k : Fin 1792, f ⟨2 * k.val, by omega⟩) + ∑ k : Fin 1792, f ⟨2 * k.val + 1, by omega⟩ := by
  rw [← Finset.sum_add_distrib, ← (finProdFinEquiv (m := 1792) (n := 2)).sum_comp f, Fintype.sum_prod_type]
  refine Finset.sum_congr rfl fun k _ => ?_
  rw [Fin.sum_univ_two]
  refine congrArg₂ (fun a b => f a + f b) (Fin.ext ?_) (Fin.ext ?_)
  · show 0 + 2 * k.val = 2 * k.val; omega
  · show 1 + 2 * k.val = 2 * k.val + 1; omega

/-- The reference's result is the kernel's product. -/
theorem reference_eq (x0 : Vec Ideal S8x1x3584 .bf16) (x1 : Vec Ideal S1792x28672 .i8) (x2 : Vec Ideal S224x28672 .bf16) (x3 : Vec Ideal S224x28672 .i8)
    (X : Vec Ideal Cert.KernelIdeal.S8x3584 .bf16) (hX : ∀ (b : Fin 8) (k : Fin 3584), X (ix2 b k) = x0 (ix3 b 0 k)) :
    val_main_v33 (F := Ideal) x0 x1 x2 x3 = product X x1 x2 x3 := by
  funext i
  have h0 : (i 0).val < 8 := (i 0).isLt
  have h1 : (i 1).val < 28672 := (i 1).isLt
  have hr : ∀ k : Fin 1792, ridx_main_v29 (idx_main_v33 i) k = ix2 k (i 1) := fun k => by
    funext a
    match a with
    | ⟨0, _⟩ => rfl
    | ⟨1, _⟩ => exact Fin.ext (by show ((i 0).val * 28672 + (i 1).val) % 28672 = (i 1).val; omega)
  rw [val_main_v33_apply, val_main_v32_apply, val_main_v29_apply, val_main_v31_apply]
  unfold val_main_v28 val_main_v30 product
  rw [sum_even_odd]
  refine congrArg₂ (fun a b : EReal => a + b) (Finset.sum_congr rfl fun k _ => ?_) (Finset.sum_congr rfl fun k _ => ?_)
  · refine congrArg₂ (fun a b : EReal => a * b) (Eq.trans (congrArg x0 ?_) (hX _ _).symm) ((congrArg (val_main_v16 (F := Ideal) x1 x2 x3) (hr k)).trans (even_apply x1 x2 x3 k (i 1)))
    funext a
    match a with
    | ⟨0, _⟩ => exact Fin.ext (by show 0 + 1 * (((i 0).val * 28672 + (i 1).val) / 28672) = (i 0).val; omega)
    | ⟨1, _⟩ => rfl
    | ⟨2, _⟩ => exact Fin.ext (by show 0 + 2 * k.val = 2 * k.val; omega)
  · refine congrArg₂ (fun a b : EReal => a * b) (Eq.trans (congrArg x0 ?_) (hX _ _).symm) ((congrArg (val_main_v27 (F := Ideal) x1 x2 x3) (hr k)).trans (odd_apply x1 x2 x3 k (i 1)))
    funext a
    match a with
    | ⟨0, _⟩ => exact Fin.ext (by show 0 + 1 * (((i 0).val * 28672 + (i 1).val) / 28672) = (i 0).val; omega)
    | ⟨1, _⟩ => rfl
    | ⟨2, _⟩ => exact Fin.ext (by show 1 + 2 * k.val = 2 * k.val + 1; omega)

end Cert.Proof.Value

end
-- ==== Proof.KernelRun.lean ====
module

public import proofs.«01_k».proof.Proof.Gen.Kernel.Frame
public import proofs.«01_k».proof.Proof.Gen.Kernel.Skeleton
public import Idealize.ShloMosaic.Lib.VecWindow
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame of the kernel as compiled, at any values. The program is the idealized one's text in its own names, so the run of
the body is stated again here; what it leaves in the output buffer is named and not read. -/

/-! ## The kernel body on any staging memrefs: a subtype the run finds -/

/-- Each window's current staging memref at point `t`, spelled as the pipeline passes it (`bodyAt0`), and its wholeness. -/
abbrev ms0_0 (t : Fin cfg0.N) : Memref sig .tc .vmem S8x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S224x1024 .f32 := Memref.whole cc0_scratch0
abbrev scM0_1 : Memref sig .tc .vmem S224x1024 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 2700000 in
/-- The body's triple, with the output it computes: on whole staging buffers, the inputs' at their contents, the output's and the
    two scratch buffers' at anything, the body runs to the continuation holding the inputs as they were, the output at the first
    component, and the scratch at some contents. -/
def bodyRun (c : Dev nD) (i : grid0.Coords) (arg1 : Memref sig .tc .vmem S8x3584 .bf16) (harg1 : arg1.IsWhole) (arg2 : Memref sig .tc .vmem S1792x1024 .i8) (harg2 : arg2.IsWhole)
    (arg3 : Memref sig .tc .vmem S224x1024 .bf16) (harg3 : arg3.IsWhole) (arg4 : Memref sig .tc .vmem S224x1024 .i8) (harg4 : arg4.IsWhole)
    (arg5 : Memref sig .tc .vmem S8x1024 .f32) (harg5 : arg5.IsWhole) (arg6 : Memref sig .tc .vmem S224x1024 .f32) (harg6 : arg6.IsWhole)
    (arg7 : Memref sig .tc .vmem S224x1024 .f32) (harg7 : arg7.IsWhole)
    (x0 : Vec F S8x3584 .bf16) (x1 : Vec F S1792x1024 .i8) (x2 : Vec F S224x1024 .bf16) (x3 : Vec F S224x1024 .i8) :
    { OUT : Vec F S8x1024 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare OUT ∗ (∃ d, owns (c : Thread nD τ) arg6 fullShare d) ∗ (∃ d, owns (c : Thread nD τ) arg7 fullShare d)) -∗ K ⟨⟩))
          ⊢ wp frame (wpE (defs₀ (F := F)) Variants.none c none) E (cc0_dense i arg1 harg1 arg2 harg2 arg3 harg3 arg4 harg4 arg5 harg5 arg6 harg6 arg7 harg7) K } := by
    refine ⟨?_, fun E K => ?_⟩; rotate_left
    simp only [cc0_dense_eq_skeleton]; unfold cc0_dense_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton, k0_part53_eq_skeleton, k0_part54_eq_skeleton,
      k0_part55_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro; exact View.read_writes_full arg5.view _ inb_S8x1024_S8x1024_0_0 _ []
    isplitl [HS0]
    · iexists _, _; isplitr; swap; · iexact HS0
      ipureintro; rfl
    iexists _, _; isplitr; swap; · iexact HS1
    ipureintro; rfl

variable (m : (ℓ : Loc nD τ sig) → Buf (Elt F) ℓ) (ρ : Dev nD → PrngReg)
/-! ## The pipeline's proof data -/

/-- What the body leaves in its output buffer at point `t`: named by the run, opened nowhere. -/
def outAt (c : Dev nD) (t : Fin cfg0.N) : Vec F S8x1024 .f32 :=
  (bodyRun c (grid0.coords t) _ (hs0_0 t) _ (hs0_1 t) _ (hs0_2 t) _ (hs0_3 t) _ (hs0_4 t) scM0_0 (Memref.isWhole_whole _) scM0_1 (Memref.isWhole_whole _) (iblk m c 0 t) (iblk m c 1 t) (iblk m c 2 t) (iblk m c 3 t)).1

/-- The proof data of the one pipeline on core `c`: the arrays as the region finds them; after the body at point `t` each
    input's buffer at its block, the output's at what the run finds; the scratch and the generator register in the
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((bodyRun c (grid0.coords t) _ (hs0_0 t) _ (hs0_1 t) _ (hs0_2 t) _ (hs0_3 t) _ (hs0_4 t) scM0_0 (Memref.isWhole_whole _) scM0_1 (Memref.isWhole_whole _) (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: every final state has each window's array as the proof data's blocks leave it, every other unscoped buffer at
    its region-entry contents, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- `run_main_quiescent` without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, at any values: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Claims.lean ====
module

public import proofs.«01_k».proof.Defs
public import proofs.«01_k».proof.Proof.Value
public import proofs.«01_k».proof.Proof.KernelRun
public import Idealize.ShloMosaic.Lib.Quiescent

@[expose] public section

noncomputable section

namespace Cert.Proof.Claims

open Idealize.ShloMosaic Idealize.ShloMosaic.TcCoe Idealize.ShloMosaic.Tactic
open Idealize.SL.Sem
open Cert.KernelIdeal.Gen (product)

/-- The kernel runs, leaves its arguments as they were and every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization rewrote nothing. -/
theorem preserves : Cert.preserves_Kernel_KernelIdeal := trivial

/-- The kernel reads the activations through a reshape that drops the axis of size one. -/
theorem activations (m : (ℓ : Loc Cert.KernelIdeal.nD Cert.KernelIdeal.τ Cert.KernelIdeal.sig) → Buf (Elt Ideal) ℓ) (c : Dev Cert.KernelIdeal.nD)
    (b : Fin 8) (k : Fin 3584) : (Cert.KernelIdeal.Gen.V m c Cert.KernelIdeal.main_v0 : Vec Ideal Cert.KernelIdeal.S8x3584 .bf16) (ix2 b k)
      = (m ((c.tc : Thread Cert.KernelIdeal.nD Cert.KernelIdeal.τ).loc Cert.KernelIdeal.main_arg0) : Vec Ideal Cert.KernelIdeal.S8x1x3584 .bf16) (ix3 b 0 k) := by
  entry_read
  pointwise

/-- Over the reals the kernel's result is the reference's, whatever the arguments. -/
theorem algebraic : Cert.algebraic_KernelIdeal_ReferenceIdeal := by
  intro m ρ m' ρ' _ hagree
  refine ⟨fun c => product (Cert.KernelIdeal.Gen.V m c Cert.KernelIdeal.main_v0) (m (c.tc.loc Cert.KernelIdeal.main_arg1))
    (m (c.tc.loc Cert.KernelIdeal.main_arg2)) (m (c.tc.loc Cert.KernelIdeal.main_arg3)), ?_, ?_⟩
  · refine (θ_run Cert.KernelIdeal.defs _ _).mono (fun r h c => ⟨?_, h.2 c⟩)
      (θ_run_and (Cert.KernelIdeal.Gen.run_main (F := Ideal) m ρ) (Cert.KernelIdeal.Gen.unchanged (F := Ideal) m ρ))
    refine ((h.1 c).1 4).trans ((Cert.KernelIdeal.Gen.final4 m c).trans ?_)
    rw [Cert.KernelIdeal.Gen.V_main_arg1, Cert.KernelIdeal.Gen.V_main_arg2, Cert.KernelIdeal.Gen.V_main_arg3]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v33_eq, (hagree c).1, (hagree c).2.1, (hagree c).2.2.1, (hagree c).2.2.2]
    exact Cert.Proof.Value.reference_eq _ _ _ _ _ (activations m c)

end Cert.Proof.Claims

end
-- ==== Proof.Sum.lean ====
module

public import proofs.«01_k».proof.Defs
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import Idealize.ShloMosaic.Lib.Quiescent

@[expose] public section

noncomputable section

namespace Cert.Proof.Sum

open Idealize.ShloMosaic Idealize.ShloMosaic.TcCoe
open Idealize.SL.Sem

/-- The combining call runs, leaves its arguments as they were and every counter at zero. -/
theorem frame_combine : Cert.quiescent_Combine := fun m ρ _ => Cert.Combine.Gen.frame m ρ

/-- So does its idealization. -/
theorem frame_ideal : Cert.quiescent_CombineIdeal := fun m ρ _ => Cert.CombineIdeal.Gen.frame m ρ

/-- So does its reference, which declares no semaphore. -/
theorem frame_reference : Cert.quiescent_CombineReferenceIdeal := fun m ρ _ =>
  (θ_run Cert.CombineReferenceIdeal.defs _ _).mono (fun r h => ⟨fun c => (h c).2, sem_eq_zero_of_no_sems (by decide) r.2⟩)
    (Cert.CombineReferenceIdeal.Value.run (F := Ideal) m ρ)

/-- The idealization rewrote nothing. -/
theorem preserves : Cert.preserves_Combine_CombineIdeal := trivial

/-- Over the reals the combining call's result is the reference's: both add the two arrays index by index. -/
theorem algebraic : Cert.algebraic_CombineIdeal_CombineReferenceIdeal := by
  intro m ρ m' ρ' _ hagree
  refine ⟨_, Cert.CombineIdeal.Value.run (F := Ideal) m ρ, ?_⟩
  refine (θ_run Cert.CombineReferenceIdeal.defs _ _).mono (fun r h c => ⟨(h c).1.trans ?_, (h c).2⟩)
    (Cert.CombineReferenceIdeal.Value.run (F := Ideal) m' ρ')
  rw [(hagree c).1, (hagree c).2]
  rfl

end Cert.Proof.Sum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import proofs.«01_k».proof.Proof.Sum
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Combine.Gen.facts, Cert.CombineIdeal.Gen.facts, Cert.CombineReferenceIdeal.Gen.facts,
  Claims.frame_kernel, Claims.frame_ideal, Claims.frame_reference, Sum.frame_combine, Sum.frame_ideal, Sum.frame_reference,
  Claims.preserves, Claims.algebraic, Sum.preserves, Sum.algebraic⟩

end Cert.Proof

end
